-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_width_is_not_zero [hPre_width_is_not_zero : Cert.Pre_width_is_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_width_is_not_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_width_is_not_zero [hPre_width_is_not_zero : Cert.Pre_width_is_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_width_is_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_width_is_not_zero [hKernelIdeal : Cert.KernelIdeal.Facts] [hPre_width_is_not_zero : Cert.Pre_width_is_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_width_is_not_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_width_is_not_zero [hReferenceIdeal : Cert.ReferenceIdeal.Facts] [hPre_width_is_not_zero : Cert.Pre_width_is_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_width_is_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_width_is_not_zero [hKernelIdeal : Cert.KernelIdeal.Facts] [hReferenceIdeal : Cert.ReferenceIdeal.Facts] [hPre_width_is_not_zero : Cert.Pre_width_is_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_width_is_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_width_is_not_zero : Cert.Pre_width_is_not_zero.Facts),
    quiescent_Kernel (hKernel := hKernel)
    ∧ quiescent_KernelIdeal (hKernelIdeal := hKernelIdeal)
    ∧ quiescent_KernelIdeal_pre_width_is_not_zero (hKernelIdeal := hKernelIdeal) (hPre_width_is_not_zero := hPre_width_is_not_zero)
    ∧ quiescent_ReferenceIdeal (hReferenceIdeal := hReferenceIdeal)
    ∧ quiescent_ReferenceIdeal_pre_width_is_not_zero (hReferenceIdeal := hReferenceIdeal) (hPre_width_is_not_zero := hPre_width_is_not_zero)
    ∧ preserves_Kernel_KernelIdeal
    ∧ algebraic_KernelIdeal_ReferenceIdeal_pre_width_is_not_zero (hKernelIdeal := hKernelIdeal) (hReferenceIdeal := hReferenceIdeal) (hPre_width_is_not_zero := hPre_width_is_not_zero)
-- ==== Pre_width_is_not_zero.lean ====
abbrev S2x8x131072 : Shape := ⟨3, ![2, 8, 131072]⟩
abbrev S32 : Shape := ⟨1, ![32]⟩
abbrev S_ : Shape := ⟨0, ![]⟩

class Facts : Prop where

variable [Facts]

def fn {F : FTy → Type} [FloatOps F] (main_arg0 : FVec F S2x8x131072 .f32) (main_arg1 : FVec F S32 .f32) (main_arg2 : FVec F S_ .f32) : IVec S_ 1 :=
  let main_cst : FVec F S_ .f32 := constant S_ .f32 0x00000000#32
  let main_v0 : IVec S_ 1 := cmpf .une main_arg2 main_cst
  main_v0
-- ==== Kernel.lean ====
abbrev S2x8x131072 : Shape := ⟨3, ![2, 8, 131072]⟩
abbrev S32 : Shape := ⟨1, ![32]⟩
abbrev S_ : Shape := ⟨0, ![]⟩
abbrev S1x1 : Shape := ⟨2, ![1, 1]⟩
abbrev S32x1 : Shape := ⟨2, ![32, 1]⟩
abbrev S8x32x32 : Shape := ⟨3, ![8, 32, 32]⟩
abbrev S2x8x8192 : Shape := ⟨3, ![2, 8, 8192]⟩
abbrev S1x1x8192 : Shape := ⟨3, ![1, 1, 8192]⟩
abbrev S1x8192 : Shape := ⟨2, ![1, 8192]⟩
abbrev S32x8192 : Shape := ⟨2, ![32, 8192]⟩
abbrev S32x32 : Shape := ⟨2, ![32, 32]⟩
abbrev S1x32x32 : Shape := ⟨3, ![1, 32, 32]⟩
abbrev S8 : Shape := ⟨1, ![8]⟩
abbrev S8x1x1 : Shape := ⟨3, ![8, 1, 1]⟩

abbrev nBuf : Space → Nat
  | .hbm => 11
  | .vmem => 5
  | .smem => 0
  | _ => 0

abbrev bufTy : (tb : Table) → Fin (tcTables nBuf tb) → BufTy
  | .hbm, ⟨0, _⟩ => ⟨S2x8x131072, .f32⟩
  | .hbm, ⟨1, _⟩ => ⟨S32, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32x1, .f32⟩
  | .hbm, ⟨10, _⟩ => ⟨S8x32x32, .f32⟩
  | .local _ .vmem, ⟨0, _⟩ => ⟨S2x8x8192, .f32⟩
  | .local _ .vmem, ⟨1, _⟩ => ⟨S2x8x8192, .f32⟩
  | .local _ .vmem, ⟨2, _⟩ => ⟨S32x1, .f32⟩
  | .local _ .vmem, ⟨3, _⟩ => ⟨S1x1, .f32⟩
  | .local _ .vmem, ⟨4, _⟩ => ⟨S8x32x32, .f32⟩
  | _, _ => ⟨S2x8x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2x8x131072 : Shape := ⟨3, ![2, 8, 131072]⟩
abbrev S32 : Shape := ⟨1, ![32]⟩
abbrev S_ : Shape := ⟨0, ![]⟩
abbrev S1x8x131072 : Shape := ⟨3, ![1, 8, 131072]⟩
abbrev S8x131072 : Shape := ⟨2, ![8, 131072]⟩
abbrev S8x131072x1 : Shape := ⟨3, ![8, 131072, 1]⟩
abbrev S1x1x32 : Shape := ⟨3, ![1, 1, 32]⟩
abbrev S8x131072x32 : Shape := ⟨3, ![8, 131072, 32]⟩
abbrev S8x32x131072 : Shape := ⟨3, ![8, 32, 131072]⟩
abbrev S8x32x32 : Shape := ⟨3, ![8, 32, 32]⟩
abbrev S8 : Shape := ⟨1, ![8]⟩
abbrev S8x1x1 : Shape := ⟨3, ![8, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x8x131072, .f32⟩
  | .hbm, ⟨1, _⟩ => ⟨S32, .f32⟩
  | .hbm, ⟨2, _⟩ => ⟨S_, .f32⟩
  | .hbm, ⟨3, _⟩ => ⟨S1x8x131072, .f32⟩
  | .hbm, ⟨4, _⟩ => ⟨S8x131072, .f32⟩
  | .hbm, ⟨5, _⟩ => ⟨S8x131072x1, .f32⟩
  | .hbm, ⟨6, _⟩ => ⟨S1x1x32, .f32⟩
  | .hbm, ⟨7, _⟩ => ⟨S8x131072x32, .f32⟩
  | .hbm, ⟨8, _⟩ => ⟨S8x131072x32, .f32⟩
  | .hbm, ⟨9, _⟩ => ⟨S8x131072x32, .f32⟩
  | .hbm, ⟨10, _⟩ => ⟨S8x131072x32, .f32⟩
  | .hbm, ⟨11, _⟩ => ⟨S8x131072x32, .f32⟩
  | .hbm, ⟨12, _⟩ => ⟨S8x131072x32, .f32⟩
  | .hbm, ⟨13, _⟩ => ⟨S_, .f32⟩
  | .hbm, ⟨14, _⟩ => ⟨S8x131072x32, .f32⟩
  | .hbm, ⟨15, _⟩ => ⟨S8x131072x32, .f32⟩
  | .hbm, ⟨16, _⟩ => ⟨S8x131072x32, .f32⟩
  | .hbm, ⟨17, _⟩ => ⟨S1x8x131072, .f32⟩
  | .hbm, ⟨18, _⟩ => ⟨S8x131072, .f32⟩
  | .hbm, ⟨19, _⟩ => ⟨S8x131072x1, .f32⟩
  | .hbm, ⟨20, _⟩ => ⟨S1x1x32, .f32⟩
  | .hbm, ⟨21, _⟩ => ⟨S8x131072x32, .f32⟩
  | .hbm, ⟨22, _⟩ => ⟨S8x131072x32, .f32⟩
  | .hbm, ⟨23, _⟩ => ⟨S8x131072x32, .f32⟩
  | .hbm, ⟨24, _⟩ => ⟨S8x131072x32, .f32⟩
  | .hbm, ⟨25, _⟩ => ⟨S8x131072x32, .f32⟩
  | .hbm, ⟨26, _⟩ => ⟨S8x131072x32, .f32⟩
  | .hbm, ⟨27, _⟩ => ⟨S_, .f32⟩
  | .hbm, ⟨28, _⟩ => ⟨S8x131072x32, .f32⟩
  | .hbm, ⟨29, _⟩ => ⟨S8x131072x32, .f32⟩
  | .hbm, ⟨30, _⟩ => ⟨S8x131072x32, .f32⟩
  | .hbm, ⟨31, _⟩ => ⟨S8x32x131072, .f32⟩
  | .hbm, ⟨32, _⟩ => ⟨S8x32x32, .f32⟩
  | .hbm, ⟨33, _⟩ => ⟨S_, .f32⟩
  | .hbm, ⟨34, _⟩ => ⟨S8, .f32⟩
  | .hbm, ⟨35, _⟩ => ⟨S8x1x1, .f32⟩
  | .hbm, ⟨36, _⟩ => ⟨S_, .f32⟩
  | .hbm, ⟨37, _⟩ => ⟨S8x1x1, .f32⟩
  | .hbm, ⟨38, _⟩ => ⟨S8x1x1, .f32⟩
  | .hbm, ⟨39, _⟩ => ⟨S8x32x32, .f32⟩
  | .hbm, ⟨40, _⟩ => ⟨S8x32x32, .f32⟩
  | _, _ => ⟨S2x8x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Proof.Gauss.lean ====
/-
  One sample against one bin, over the extended reals: the Gaussian of the scaled distance between them. The kernel
  scales the sample and the bin first and subtracts afterwards, the plain formula subtracts first and divides. For a
  width other than zero the two squared distances are equal, at infinite samples and bins too.
-/
module

public import Idealize.ShloMosaic.PureOps.Ideal
public import Idealize.ShloMosaic.PureOps.Ideal.Laws

@[expose] public section

noncomputable section

namespace Cert.Joint

open Idealize.ShloMosaic

/-- The factor minus one half, as both programs write it. -/
def half : EReal := Ideal.ofBits .f32 0xBF000000#32

/-- The small number added to the sum of a block before the division, as both programs write it. -/
def eps : EReal := Ideal.ofBits .f32 0x2EDBE6FF#32

/-- The kernel's Gaussian: sample `v`, inverse width `i`, bin `c` already multiplied by the inverse width. -/
def gauss (v i c : EReal) : EReal := Ideal.exp (half * (v * i - c) * (v * i - c))

/-- The formula's Gaussian: sample `v`, bin `c`, width `w`. -/
def bell (v c w : EReal) : EReal := Ideal.exp (half * (Ideal.div (v - c) w * Ideal.div (v - c) w))

/-- Over the reals, and with infinite samples and bins, multiplying by a real number distributes over the difference
    up to the sign of an infinite distance, which the square does not see. -/
theorem sq_dist (v c : EReal) (r : ℝ) : (v * r - c * r) * (v * r - c * r) = ((v - c) * r) * ((v - c) * r) := by
  induction v with
  | coe x =>
    induction c with
    | coe y => norm_cast; ring
    | top =>
      rcases lt_trichotomy r 0 with h | rfl | h
      · simp [EReal.top_mul_coe_of_neg h, EReal.bot_mul_coe_of_neg h, ← EReal.coe_mul]
      · simp
      · simp [EReal.top_mul_coe_of_pos h, EReal.bot_mul_coe_of_pos h, ← EReal.coe_mul]
    | bot =>
      rcases lt_trichotomy r 0 with h | rfl | h
      · simp [EReal.top_mul_coe_of_neg h, EReal.bot_mul_coe_of_neg h, ← EReal.coe_mul]
      · simp
      · simp [EReal.top_mul_coe_of_pos h, EReal.bot_mul_coe_of_pos h, ← EReal.coe_mul]
  | top =>
    rcases lt_trichotomy r 0 with h | rfl | h
    · induction c with
      | coe y => simp [EReal.top_mul_coe_of_neg h, EReal.bot_mul_coe_of_neg h, ← EReal.coe_mul]
      | top => simp [EReal.top_mul_coe_of_neg h, EReal.bot_mul_coe_of_neg h]
      | bot => simp [EReal.top_mul_coe_of_neg h, EReal.bot_mul_coe_of_neg h]
    · simp
    · induction c with
      | coe y => simp [EReal.top_mul_coe_of_pos h, EReal.bot_mul_coe_of_pos h, ← EReal.coe_mul]
      | top => simp [EReal.top_mul_coe_of_pos h, EReal.bot_mul_coe_of_pos h]
      | bot => simp [EReal.top_mul_coe_of_pos h, EReal.bot_mul_coe_of_pos h]
  | bot =>
    rcases lt_trichotomy r 0 with h | rfl | h
    · induction c with
      | coe y => simp [EReal.top_mul_coe_of_neg h, EReal.bot_mul_coe_of_neg h, ← EReal.coe_mul]
      | top => simp [EReal.top_mul_coe_of_neg h, EReal.bot_mul_coe_of_neg h]
      | bot => simp [EReal.top_mul_coe_of_neg h, EReal.bot_mul_coe_of_neg h]
    · simp
    · induction c with
      | coe y => simp [EReal.top_mul_coe_of_pos h, EReal.bot_mul_coe_of_pos h, ← EReal.coe_mul]
      | top => simp [EReal.top_mul_coe_of_pos h, EReal.bot_mul_coe_of_pos h]
      | bot => simp [EReal.top_mul_coe_of_pos h, EReal.bot_mul_coe_of_pos h]

/-- The inverse of an extended real other than zero is a real number. -/
theorem inv_real (w : EReal) (hw : w ≠ 0) : ∃ r : ℝ, w⁻¹ = (r : EReal) := by
  induction w with
  | coe x => exact ⟨x⁻¹, (EReal.coe_inv x).symm ▸ rfl⟩
  | top => exact ⟨0, by simp⟩
  | bot => exact ⟨0, by simp⟩

/-- The kernel's Gaussian at the inverse width, with the bin scaled by it, is the formula's Gaussian. -/
theorem gauss_eq_bell (v c w : EReal) (hw : w ≠ 0) :
    gauss v (Ideal.div 1 w) (c * Ideal.div 1 w) = bell v c w := by
  obtain ⟨r, hr⟩ := inv_real w hw
  unfold gauss bell Ideal.div
  rw [if_neg hw, if_neg hw, one_mul, hr, mul_assoc, sq_dist]

end Cert.Joint

end
-- ==== Proof.Block.lean ====
/-
  One grid point of the kernel, over the extended reals: what the body stores in the result block. For each of the
  eight images it adds to the 32 by 32 slab the products of the two Gaussians summed over the point's 8192 samples; the
  first point starts from zero, the last one divides the slabs by their sums.
-/
module

public import proofs.«01_k».proof.Proof.Gauss
public import proofs.«01_k».proof.Proof.Gen.KernelIdeal.Frame
public import Idealize.ShloMosaic.Lib.Pipeline.Value
public import Idealize.ShloMosaic.Lib.Pipeline.ReadBack
public import Idealize.ShloMosaic.Lib.Pipeline.ValueKit.Tiles
public import Idealize.ShloMosaic.Lib.MatmulPlain
public import Idealize.ShloMosaic.Lib.ValueLayout
public import Idealize.ShloMosaic.Lib.ValueIdx
public import Idealize.ShloMosaic.Lib.Pointwise.Reduce
public import Idealize.ShloMosaic.Lib.Tactic

@[expose] public section

noncomputable section

namespace Cert.KernelIdeal.Joint

open Cert.KernelIdeal Cert.KernelIdeal.Gen Cert.Joint Idealize.ShloMosaic.TcCoe Idealize.SL.Sem
open Idealize.ShloMosaic hiding ix1 ix2 ix3 eq_ix1 eq_ix2 eq_ix3
open Idealize.ShloMosaic.ValueIdx

/-- The products of the two Gaussians summed over one block of samples: image `b`, bins `p` and `q`. -/
def part (X : Vec Ideal S2x8x8192 .f32) (C : Vec Ideal S32x1 .f32) (w : EReal) (b : Fin 8) (p q : Fin 32) : EReal :=
  ∑ k : Fin 8192, gauss (X (ix3 (0 : Fin 2) b k)) w (C (ix2 p (0 : Fin 1))) * gauss (X (ix3 (1 : Fin 2) b k)) w (C (ix2 q (0 : Fin 1)))

/-- The result block after one more block of samples: what it held plus the block's products. -/
def step (o : Vec Ideal S8x32x32 .f32) (X : Vec Ideal S2x8x8192 .f32) (C : Vec Ideal S32x1 .f32) (w : EReal) : Vec Ideal S8x32x32 .f32 :=
  fun z => o z + part X C w (z 0) (z 1) (z 2)

/-- A column broadcast over 8192 lanes reads, in row `p`, the column's row `p`. -/
theorem column_apply (C : FVec Ideal S32x1 .f32) (h : S32x1.Broadcasts S32x8192) (p : Fin 32) (k : Fin 8192) :
    broadcastTo S32x8192 C h (ix2 p k) = C (ix2 p (0 : Fin 1)) :=
  broadcastTo_apply C h (ix2 p k) (ix2 p (0 : Fin 1)) fun a => by
    match a with
    | ⟨0, _⟩ => rfl
    | ⟨1, _⟩ => rfl

/-- The rows of Gaussians the body feeds to the product, of one image's samples `a`. -/
def rows (w : EReal) (C : FVec Ideal S32x1 .f32) (a : Vec Ideal S1x1x8192 .f32) : FVec Ideal S32x8192 .f32 := k0_pay11 w C a

/-- A row of Gaussians, at bin `p` and sample `k`. -/
theorem rows_apply (w : EReal) (C : FVec Ideal S32x1 .f32) (a : Vec Ideal S1x1x8192 .f32) (p : Fin 32) (k : Fin 8192) :
    rows w C a (ix2 p k) = gauss (a (ix3 (0 : Fin 1) (0 : Fin 1) k)) w (C (ix2 p (0 : Fin 1))) := by
  have h1 : broadcastTo S32x8192 (mulf (shapeCast S1x8192 a shapeCasts_S1x1x8192_S1x8192) (broadcast S1x8192 w : FVec Ideal S1x8192 .f32))
      broadcasts_S1x8192_S32x8192 (ix2 p k) = a (ix3 (0 : Fin 1) (0 : Fin 1) k) * w := by
    rw [broadcastTo_1b_ab_apply]
    show shapeCast S1x8192 a shapeCasts_S1x1x8192_S1x8192 (ix2 (0 : Fin 1) k) * w = _
    rw [shapeCast_1ab_ab_apply]
  have h2 := column_apply C broadcasts_S32x1_S32x8192 p k
  unfold rows k0_pay11
  show Ideal.exp (Ideal.ofBits .f32 0xBF000000#32 * (broadcastTo S32x8192 _ _ (ix2 p k) - broadcastTo S32x8192 C _ (ix2 p k))
    * (broadcastTo S32x8192 _ _ (ix2 p k) - broadcastTo S32x8192 C _ (ix2 p k))) = _
  rw [h1, h2]
  rfl

/-- The slab the body stores: the slab read back plus the products of the two rows of Gaussians. -/
def slab (w : EReal) (C : FVec Ideal S32x1 .f32) (a c : Vec Ideal S1x1x8192 .f32) (o : Vec Ideal S1x32x32 .f32) : FVec Ideal S1x32x32 .f32 :=
  k0_pay13 (rows w C a) (rows w C c) o

/-- A slab stored, at bins `p` and `q`. -/
theorem slab_apply (w : EReal) (C : FVec Ideal S32x1 .f32) (a c : Vec Ideal S1x1x8192 .f32) (o : Vec Ideal S1x32x32 .f32) (p q : Fin 32) :
    slab w C a c o (ix3 (0 : Fin 1) p q) = o (ix3 (0 : Fin 1) p q)
      + ∑ k : Fin 8192, gauss (a (ix3 (0 : Fin 1) (0 : Fin 1) k)) w (C (ix2 p (0 : Fin 1))) * gauss (c (ix3 (0 : Fin 1) (0 : Fin 1) k)) w (C (ix2 q (0 : Fin 1))) := by
  unfold slab k0_pay13
  rw [shapeCast_ab_1ab_apply]
  show shapeCast S32x32 o _ (ix2 p q) + FloatOps.matmul (DotDims.transposedRhs 32 8192 32) none (rows w C a) (rows w C c) (constant S32x32 .f32 0x00000000#32) (ix2 p q) = _
  rw [shapeCast_1ab_ab_apply, Ideal.matmul_transposedRhs_apply]
  show _ + (Ideal.ofBits .f32 0x00000000#32 + _) = _
  rw [Ideal.ofBits_zero_f32, zero_add]
  simp only [rows_apply]

/-- The store of image `b`, its operands read through their rectangles: the slab of `step` that the rectangle names. -/
theorem slab_piece (b : ℕ) (hb : b < 8) (i1 : ∀ a, (![0, b, 0] : Fin 3 → ℕ) a + S1x1x8192.size a ≤ S2x8x8192.size a)
    (i2 : ∀ a, (![1, b, 0] : Fin 3 → ℕ) a + S1x1x8192.size a ≤ S2x8x8192.size a)
    (io : ∀ a, (![b, 0, 0] : Fin 3 → ℕ) a + S1x32x32.size a ≤ S8x32x32.size a)
    (X : Vec Ideal S2x8x8192 .f32) (C : Vec Ideal S32x1 .f32) (w : EReal) (o : Vec Ideal S8x32x32 .f32) (y : S1x32x32.Idx) :
    slab w C (View.ld X (Rect.unit ![0, b, 0] S1x1x8192.size i1)) (View.ld X (Rect.unit ![1, b, 0] S1x1x8192.size i2))
        (View.ld o (Rect.unit ![b, 0, 0] S1x32x32.size io)) y
      = step o X C w ((Rect.unit (s := S8x32x32) ![b, 0, 0] S1x32x32.size io).emb y) := by
  obtain ⟨z, p, q, rfl⟩ : ∃ (z : Fin 1) (p q : Fin 32), y = ix3 z p q := ⟨_, _, _, eq_ix3 y⟩
  obtain rfl : z = 0 := Subsingleton.elim _ _
  have he : (Rect.unit (s := S8x32x32) ![b, 0, 0] S1x32x32.size io).emb (ix3 (0 : Fin 1) p q) = ix3 (⟨b, hb⟩ : Fin 8) p q := by
    funext a
    apply Fin.ext
    rw [show (Rect.unit (s := S8x32x32) ![b, 0, 0] S1x32x32.size io).emb (ix3 (0 : Fin 1) p q) = (Rect.unit (s := S8x32x32) ![b, 0, 0] S1x32x32.size io).idx (ix3 (0 : Fin 1) p q) from rfl, Rect.idx_unit_val]
    match a with
    | ⟨0, _⟩ => exact Nat.add_zero b
    | ⟨1, _⟩ => exact Nat.zero_add _
    | ⟨2, _⟩ => exact Nat.zero_add _
  have l1 : ∀ k : Fin 8192, View.ld X (Rect.unit ![0, b, 0] S1x1x8192.size i1) (ix3 (0 : Fin 1) (0 : Fin 1) k) = X (ix3 (0 : Fin 2) (⟨b, hb⟩ : Fin 8) k) := fun k =>
    View.ld_unit_apply_of X _ _ i1 _ _ fun a => by
      match a with
      | ⟨0, _⟩ => rfl
      | ⟨1, _⟩ => exact (Nat.add_zero b).symm
      | ⟨2, _⟩ => exact (Nat.zero_add _).symm
  have l2 : ∀ k : Fin 8192, View.ld X (Rect.unit ![1, b, 0] S1x1x8192.size i2) (ix3 (0 : Fin 1) (0 : Fin 1) k) = X (ix3 (1 : Fin 2) (⟨b, hb⟩ : Fin 8) k) := fun k =>
    View.ld_unit_apply_of X _ _ i2 _ _ fun a => by
      match a with
      | ⟨0, _⟩ => rfl
      | ⟨1, _⟩ => exact (Nat.add_zero b).symm
      | ⟨2, _⟩ => exact (Nat.zero_add _).symm
  rw [slab_apply, he]
  simp only [l1, l2]
  show View.ld o _ _ + _ = _
  rw [show View.ld o (Rect.unit ![b, 0, 0] S1x32x32.size io) (ix3 (0 : Fin 1) p q) = o (ix3 (⟨b, hb⟩ : Fin 8) p q) from congrArg o he]
  rfl

/-- A block with every slab divided by its own sum. -/
def norm (v : Vec Ideal S8x32x32 .f32) : Vec Ideal S8x32x32 .f32 :=
  fun z => Ideal.div (v z) ((∑ p : Fin 32, ∑ q : Fin 32, v (ix3 (z 0) p q)) + eps)

/-- What the last point stores over the block: the block with every slab divided by its own sum. -/
theorem pay2_eq (v : Vec Ideal S8x32x32 .f32) : k0_pay2 (F := Ideal) v = norm v := by
  funext z
  obtain ⟨b, p, q, rfl⟩ : ∃ (b : Fin 8) (p q : Fin 32), z = ix3 b p q := ⟨_, _, _, eq_ix3 z⟩
  unfold k0_pay2
  dsimp only
  rw [shapeCast_self]
  show Ideal.div (v (ix3 b p q)) (broadcastTo S8x32x32 _ broadcasts_S8x1x1_S8x32x32 (ix3 b p q)) = _
  rw [broadcastTo_apply _ _ (ix3 b p q) (ix3 b (0 : Fin 1) (0 : Fin 1)) fun a => by
    match a with
    | ⟨0, _⟩ => rfl
    | ⟨1, _⟩ => rfl
    | ⟨2, _⟩ => rfl]
  show Ideal.div _ (shapeCast S8x1x1 _ shapeCasts_S8_S8x1x1 (ix3 b (0 : Fin 1) (0 : Fin 1)) + Ideal.ofBits .f32 0x2EDBE6FF#32) = _
  rw [shapeCast_apply _ _ (ix3 b (0 : Fin 1) (0 : Fin 1)) (ix1 b) (by
    rw [Shape.rowMajor_val_one, Shape.rowMajor_val_three]; show b.val = (b.val * 1 + 0) * 1 + 0; omega)]
  show Ideal.div _ (Ideal.reduceAdd _ v (ix1 b) + _) = _
  rw [Ideal.reduceAdd_r3_a12]
  rfl

/-- The inverse width the body reads: the one element of its block. -/
abbrev width (x2 : Vec Ideal S1x1 .f32) : EReal := x2 (ix2 (0 : Fin 1) (0 : Fin 1))

/-! The body spells the slab of each image in its own way; all eight are the one function. -/

section Spellings
variable (x2 : Vec Ideal S1x1 .f32) (x1 : Vec Ideal S32x1 .f32) (a c : Vec Ideal S1x1x8192 .f32) (o : Vec Ideal S1x32x32 .f32)

theorem pay3_eq : k0_pay3 (F := Ideal) x2 = width x2 := congrArg x2 (funext fun d => by match d with | ⟨0, _⟩ => rfl | ⟨1, _⟩ => rfl)
theorem pay4_eq : k0_pay4 (F := Ideal) x1 = x1 := shapeCast_self x1 _
theorem slab_0 : k0_pay6 (F := Ideal) x2 x1 a c o = slab (k0_pay3 x2) (k0_pay4 x1) a c o := rfl
variable (w : EReal) (C : FVec Ideal S32x1 .f32)
theorem slab_1 : k0_pay7 (F := Ideal) w C a c o = slab w C a c o := rfl
theorem slab_2 : k0_pay10 (F := Ideal) C (k0_pay8 (F := Ideal) w c) (k0_pay9 (F := Ideal) w a) o = slab w C a c o := rfl
theorem slab_3 : k0_pay13 (F := Ideal) (k0_pay11 (F := Ideal) w C a) (k0_pay12 (F := Ideal) w C c) o = slab w C a c o := rfl
theorem slab_4 : k0_pay14 (F := Ideal) w C a c o = slab w C a c o := rfl
theorem slab_5 : k0_pay15 (F := Ideal) w C a c o = slab w C a c o := rfl
theorem slab_6 : k0_pay18 (F := Ideal) C (k0_pay16 (F := Ideal) w c) (k0_pay17 (F := Ideal) w a) o = slab w C a c o := rfl
theorem slab_7 : k0_pay1 (F := Ideal) (k0_pay19 (F := Ideal) w C a) (k0_pay20 (F := Ideal) w C c) o = slab w C a c o := rfl
end Spellings

theorem hz2 : (![0, 0] : Fin 2 → ℕ) = fun _ => 0 := funext fun a => by fin_cases a <;> rfl
theorem hz3 : (![0, 0, 0] : Fin 3 → ℕ) = fun _ => 0 := funext fun a => by fin_cases a <;> rfl

/-- The eight stores of slabs, the last one first. -/
abbrev stores (w7 w6 w5 w4 w3 w2 w1 w0 : S1x32x32.Idx → Elt Ideal .f32) : List (View.Piece (Elt Ideal) S8x32x32 .f32) :=
    [ ⟨Rect.unit ![7, 0, 0] S1x32x32.size inb_S8x32x32_S1x32x32_7_0_0, w7⟩,
      ⟨Rect.unit ![6, 0, 0] S1x32x32.size inb_S8x32x32_S1x32x32_6_0_0, w6⟩,
      ⟨Rect.unit ![5, 0, 0] S1x32x32.size inb_S8x32x32_S1x32x32_5_0_0, w5⟩,
      ⟨Rect.unit ![4, 0, 0] S1x32x32.size inb_S8x32x32_S1x32x32_4_0_0, w4⟩,
      ⟨Rect.unit ![3, 0, 0] S1x32x32.size inb_S8x32x32_S1x32x32_3_0_0, w3⟩,
      ⟨Rect.unit ![2, 0, 0] S1x32x32.size inb_S8x32x32_S1x32x32_2_0_0, w2⟩,
      ⟨Rect.unit ![1, 0, 0] S1x32x32.size inb_S8x32x32_S1x32x32_1_0_0, w1⟩,
      ⟨Rect.unit ![0, 0, 0] S1x32x32.size inb_S8x32x32_S1x32x32_0_0_0, w0⟩]

/-- Eight stores that are the slabs of one block `G`, over any earlier stores, leave `G`. -/
theorem stores_eq (G : Vec Ideal S8x32x32 .f32) (L : List (View.Piece (Elt Ideal) S8x32x32 .f32)) (w7 w6 w5 w4 w3 w2 w1 w0 : S1x32x32.Idx → Elt Ideal .f32)
    (h : View.PiecesOf G (stores w7 w6 w5 w4 w3 w2 w1 w0)) : View.canon (stores w7 w6 w5 w4 w3 w2 w1 w0 ++ L) = G :=
  funext fun y => View.canon_append_of_piecesOf G L _ h y (View.cover_of_tiledL (stores w7 w6 w5 w4 w3 w2 w1 w0) S1x32x32.size (by sl_kernel_rfl) y)

/-- The eight stores of a grid point's body are the slabs of `step`. -/
theorem slabs_step (X : Vec Ideal S2x8x8192 .f32) (C : Vec Ideal S32x1 .f32) (w : EReal) (o : Vec Ideal S8x32x32 .f32) :
    View.PiecesOf (step o X C w) (stores
      (slab w C (View.ld X (Rect.unit ![0, 7, 0] S1x1x8192.size inb_S2x8x8192_S1x1x8192_0_7_0)) (View.ld X (Rect.unit ![1, 7, 0] S1x1x8192.size inb_S2x8x8192_S1x1x8192_1_7_0)) (View.ld o (Rect.unit ![7, 0, 0] S1x32x32.size inb_S8x32x32_S1x32x32_7_0_0)))
      (slab w C (View.ld X (Rect.unit ![0, 6, 0] S1x1x8192.size inb_S2x8x8192_S1x1x8192_0_6_0)) (View.ld X (Rect.unit ![1, 6, 0] S1x1x8192.size inb_S2x8x8192_S1x1x8192_1_6_0)) (View.ld o (Rect.unit ![6, 0, 0] S1x32x32.size inb_S8x32x32_S1x32x32_6_0_0)))
      (slab w C (View.ld X (Rect.unit ![0, 5, 0] S1x1x8192.size inb_S2x8x8192_S1x1x8192_0_5_0)) (View.ld X (Rect.unit ![1, 5, 0] S1x1x8192.size inb_S2x8x8192_S1x1x8192_1_5_0)) (View.ld o (Rect.unit ![5, 0, 0] S1x32x32.size inb_S8x32x32_S1x32x32_5_0_0)))
      (slab w C (View.ld X (Rect.unit ![0, 4, 0] S1x1x8192.size inb_S2x8x8192_S1x1x8192_0_4_0)) (View.ld X (Rect.unit ![1, 4, 0] S1x1x8192.size inb_S2x8x8192_S1x1x8192_1_4_0)) (View.ld o (Rect.unit ![4, 0, 0] S1x32x32.size inb_S8x32x32_S1x32x32_4_0_0)))
      (slab w C (View.ld X (Rect.unit ![0, 3, 0] S1x1x8192.size inb_S2x8x8192_S1x1x8192_0_3_0)) (View.ld X (Rect.unit ![1, 3, 0] S1x1x8192.size inb_S2x8x8192_S1x1x8192_1_3_0)) (View.ld o (Rect.unit ![3, 0, 0] S1x32x32.size inb_S8x32x32_S1x32x32_3_0_0)))
      (slab w C (View.ld X (Rect.unit ![0, 2, 0] S1x1x8192.size inb_S2x8x8192_S1x1x8192_0_2_0)) (View.ld X (Rect.unit ![1, 2, 0] S1x1x8192.size inb_S2x8x8192_S1x1x8192_1_2_0)) (View.ld o (Rect.unit ![2, 0, 0] S1x32x32.size inb_S8x32x32_S1x32x32_2_0_0)))
      (slab w C (View.ld X (Rect.unit ![0, 1, 0] S1x1x8192.size inb_S2x8x8192_S1x1x8192_0_1_0)) (View.ld X (Rect.unit ![1, 1, 0] S1x1x8192.size inb_S2x8x8192_S1x1x8192_1_1_0)) (View.ld o (Rect.unit ![1, 0, 0] S1x32x32.size inb_S8x32x32_S1x32x32_1_0_0)))
      (slab w C (View.ld X (Rect.unit ![0, 0, 0] S1x1x8192.size inb_S2x8x8192_S1x1x8192_0_0_0)) (View.ld X (Rect.unit ![1, 0, 0] S1x1x8192.size inb_S2x8x8192_S1x1x8192_1_0_0)) (View.ld o (Rect.unit ![0, 0, 0] S1x32x32.size inb_S8x32x32_S1x32x32_0_0_0)))) :=
  ⟨slab_piece 7 (by decide) _ _ _ X C w o, slab_piece 6 (by decide) _ _ _ X C w o, slab_piece 5 (by decide) _ _ _ X C w o, slab_piece 4 (by decide) _ _ _ X C w o, slab_piece 3 (by decide) _ _ _ X C w o, slab_piece 2 (by decide) _ _ _ X C w o, slab_piece 1 (by decide) _ _ _ X C w o, slab_piece 0 (by decide) _ _ _ X C w o, trivial⟩

/-- A load of the slab of image `b` after a store of another image's slab reads what the earlier stores left. -/
theorem readCov_other (v : View sig .tc .vmem S8x32x32 .f32) (n b : ℕ) (hn : ∀ a, (![n, 0, 0] : Fin 3 → ℕ) a + (![1, 32, 32] : Fin 3 → ℕ) a ≤ S8x32x32.size a)
    (hb : ∀ a, (![b, 0, 0] : Fin 3 → ℕ) a + (![1, 32, 32] : Fin 3 → ℕ) a ≤ S8x32x32.size a) (h : n ≠ b)
    (w : (Rect.unit (s := S8x32x32) ![n, 0, 0] ![1, 32, 32] hn).shape.Idx → Elt Ideal .f32) (L : List (View.Piece (Elt Ideal) S8x32x32 .f32)) :
    v.readCov (⟨Rect.unit (s := S8x32x32) ![n, 0, 0] ![1, 32, 32] hn, w⟩ :: L) (Rect.unit (s := S8x32x32) ![b, 0, 0] ![1, 32, 32] hb).toLoadRect
      = v.readCov L (Rect.unit (s := S8x32x32) ![b, 0, 0] ![1, 32, 32] hb).toLoadRect := by
  refine View.readCov_skip v _ _ _ _ (decide_eq_true ⟨0, ?_⟩)
  show 1 = 0 ∨ 1 = 0 ∨ n + 1 * (1 - 1) < b ∨ b + 1 * (1 - 1) < n
  omega

variable (c : Dev nD) (i : grid0.Coords) (arg1 : Memref sig .tc .vmem S2x8x8192 .f32) (harg1 : arg1.IsWhole)
  (arg2 : Memref sig .tc .vmem S32x1 .f32) (harg2 : arg2.IsWhole) (arg3 : Memref sig .tc .vmem S1x1 .f32) (harg3 : arg3.IsWhole)
  (arg4 : Memref sig .tc .vmem S8x32x32 .f32) (harg4 : arg4.IsWhole)

/-- A POINT IN THE MIDDLE leaves the block it found, plus its own samples' products. -/
theorem out_B (hc0 : ¬cond0_0 i) (hc1 : ¬cond0_1 i)
    (x0 : Vec Ideal S2x8x8192 .f32) (x1 : Vec Ideal S32x1 .f32) (x2 : Vec Ideal S1x1 .f32) (xo3 : Vec Ideal S8x32x32 .f32) :
    out0_B_3 c i arg1 harg1 arg2 harg2 arg3 harg3 arg4 harg4 hc0 hc1 x0 x1 x2 xo3 = step xo3 x0 x1 (width x2) := by
  unfold out0_B_3
  rw [View.read_writes_eq_canon _ _ _ (cover0_B_3 c i arg1 harg1 arg2 harg2 arg3 harg3 arg4 harg4 hc0 hc1 x0 x1 x2 xo3)]
  unfold kernelRun0_B
  dsimp only
  sl_unfold_words
  simp only [View.readAt_eq_ld, harg1.read_unread, harg2.read_unread, harg3.read_unread, harg4.read_unread,
    View.ld_unit_zero (S := S32x1) hz2, View.ld_unit_zero (S := S1x1) hz2,
    slab_0, slab_1, slab_2, slab_3, slab_4, slab_5, slab_6, slab_7, pay3_eq, pay4_eq]
  exact stores_eq _ [] _ _ _ _ _ _ _ _ (slabs_step x0 x1 (width x2) xo3)

/-- THE FIRST POINT leaves its own samples' products, added to a block of zeros. -/
theorem out_A (hc0 : cond0_0 i) (hc1 : ¬cond0_1 i)
    (x0 : Vec Ideal S2x8x8192 .f32) (x1 : Vec Ideal S32x1 .f32) (x2 : Vec Ideal S1x1 .f32) :
    out0_A_3 c i arg1 harg1 arg2 harg2 arg3 harg3 arg4 harg4 hc0 hc1 x0 x1 x2 = step (k0_pay5 (F := Ideal)) x0 x1 (width x2) := by
  unfold out0_A_3
  rw [View.read_writes_eq_canon _ _ _ (cover0_A_3 c i arg1 harg1 arg2 harg2 arg3 harg3 arg4 harg4 hc0 hc1 x0 x1 x2)]
  unfold kernelRun0_A
  dsimp only
  sl_unfold_words
  simp (disch := decide) only [↓readCov_other]
  simp (disch := decide) only [View.readCov_fill, View.readAt_eq_ld, harg1.read_unread, harg2.read_unread, harg3.read_unread,
    View.ld_unit_zero (S := S32x1) hz2, View.ld_unit_zero (S := S1x1) hz2,
    slab_0, slab_1, slab_2, slab_3, slab_4, slab_5, slab_6, slab_7, pay3_eq, pay4_eq]
  exact stores_eq _ [_] _ _ _ _ _ _ _ _ (slabs_step x0 x1 (width x2) (k0_pay5 (F := Ideal)))

/-- THE LAST POINT leaves the block it found plus its own samples' products, every slab divided by its sum. -/
theorem out_C (hc0 : ¬cond0_0 i) (hc1 : cond0_1 i)
    (x0 : Vec Ideal S2x8x8192 .f32) (x1 : Vec Ideal S32x1 .f32) (x2 : Vec Ideal S1x1 .f32) (xo3 : Vec Ideal S8x32x32 .f32) :
    out0_C_3 c i arg1 harg1 arg2 harg2 arg3 harg3 arg4 harg4 hc0 hc1 x0 x1 x2 xo3 = norm (step xo3 x0 x1 (width x2)) := by
  unfold out0_C_3
  rw [View.read_writes_eq_canon _ _ _ (cover0_C_3 c i arg1 harg1 arg2 harg2 arg3 harg3 arg4 harg4 hc0 hc1 x0 x1 x2 xo3)]
  unfold kernelRun0_C
  dsimp only
  rw [View.canon_cons_unit_zero (S := S8x32x32) hz3]
  sl_unfold_words
  simp only [View.readAt_eq_ld, harg1.read_unread, harg2.read_unread, harg3.read_unread, harg4.read_unread,
    View.ld_unit_zero (S := S32x1) hz2, View.ld_unit_zero (S := S1x1) hz2,
    slab_0, slab_1, slab_2, slab_3, slab_4, slab_5, slab_6, slab_7, pay3_eq, pay4_eq]
  rw [pay2_eq, View.readCov_eq_canon']
  have hs := stores_eq _ [] _ _ _ _ _ _ _ _ (slabs_step x0 x1 (width x2) xo3)
  rw [List.append_nil] at hs
  rw [hs]
  congr 1
  exact View.ld_unit_zero hz3 _ _

end Cert.KernelIdeal.Joint

end
-- ==== Proof.Operands.lean ====
/-
  The kernel's operands as its grid points see them: the host operations before the launch leave the inverse width and
  the bins multiplied by it, and point `t` reads the samples from `8192 * t` on.
-/
module

public import proofs.«01_k».proof.Proof.Block
public import Idealize.ShloMosaic.Lib.ValueLayoutCasts
public import Idealize.ShloMosaic.Lib.StableHlo.Run
public import Idealize.ShloMosaic.Lib.IdealHost

@[expose] public section

noncomputable section

namespace Cert.KernelIdeal.Joint

open Cert.KernelIdeal Cert.KernelIdeal.Gen Cert.Joint Idealize.ShloMosaic.TcCoe Idealize.SL.Sem
open Idealize.ShloMosaic hiding ix0 ix1 ix2 ix3 eq_ix1 eq_ix2 eq_ix3
open Idealize.ShloMosaic.ValueIdx

variable (m : (ℓ : Loc nD τ sig) → Buf (Elt Ideal) ℓ) (c : Dev nD)

/-- The samples, the bins and the width the program is launched with. -/
abbrev samples : Vec Ideal S2x8x131072 .f32 := m ((c : Thread nD τ).loc main_arg0)
abbrev bins : Vec Ideal S32 .f32 := m ((c : Thread nD τ).loc main_arg1)
abbrev sigma : EReal := (m ((c : Thread nD τ).loc main_arg2) : Vec Ideal S_ .f32) ix0

/-- The inverse width. -/
abbrev inv : EReal := Ideal.div 1 (sigma m c)

/-- The inverse width as the host computes it, an array of rank zero. -/
abbrev hostInv : FVec Ideal S_ .f32 := Host.divf (constant S_ .f32 0x3F800000#32 : FVec Ideal S_ .f32) (m ((c : Thread nD τ).loc main_arg2) : FVec Ideal S_ .f32)

/-- The only entry of an array of rank zero stands at position 0, and so does the only entry of a one by one array. -/
theorem position_scalar (k : S_.Idx) : (S_.rowMajor k).val = 0 := by
  have h := (S_.rowMajor k).isLt
  have e : S_.numel = 1 := by decide
  omega

theorem position_unit (k : S1x1.Idx) : (S1x1.rowMajor k).val = 0 := by
  have h := (S1x1.rowMajor k).isLt
  have e : S1x1.numel = 1 := by decide
  omega

/-- Recast as a one by one array, the inverse width is its only entry. -/
theorem cast_inv (j : S1x1.Idx) : shapeCast S1x1 (hostInv m c) shapeCasts_S_S1x1 j = inv m c := by
  rw [shapeCast_apply _ _ j ix0 ((position_scalar _).trans (position_unit _).symm)]
  show Ideal.div (Ideal.ofBits .f32 0x3F800000#32) _ = _
  rw [Ideal.ofBits_one_f32]

/-- The kernel's third operand is the inverse width. -/
theorem V_inv (j : S1x1.Idx) : (V m c main_v1 : Vec Ideal S1x1 .f32) j = inv m c := by
  have h : (V m c main_v1 : Vec Ideal S1x1 .f32) = shapeCast S1x1 (hostInv m c) shapeCasts_S_S1x1 := by
    unfold V hostOps0
    after_results
    rfl
  rw [h, cast_inv]

/-- The kernel's second operand is the column of bins, each multiplied by the inverse width. -/
theorem V_bins (p : Fin 32) : (V m c main_v5 : Vec Ideal S32x1 .f32) (ix2 p (0 : Fin 1)) = bins m c (ix1 p) * inv m c := by
  have h : (V m c main_v5 : Vec Ideal S32x1 .f32)
      = shapeCast S32x1 (mulf (bins m c : FVec Ideal S32 .f32) (broadcastInDim S32 ![] bcast_S_S32
          (shapeCast S_ (shapeCast S1x1 (hostInv m c) shapeCasts_S_S1x1) shapeCasts_S1x1_S_))) shapeCasts_S32_S32x1 := by
    unfold V hostOps0
    after_results
    rfl
  rw [h, shapeCast_apply _ _ (ix2 p (0 : Fin 1)) (ix1 p) (by rw [Shape.rowMajor_val_one, Shape.rowMajor_val_two]; show p.val = p.val * 1 + 0; omega)]
  show bins m c (ix1 p) * _ = _
  congr 1
  rw [broadcastInDim_apply _ _ _ (ix1 p) ix0 (fun a => a.elim0), shapeCast_apply _ _ ix0 (ix2 (0 : Fin 1) (0 : Fin 1)) ((position_unit _).trans (position_scalar _).symm), cast_inv]

/-- What point `t` reads of the samples: those from `8192 * t` on. -/
theorem iblk0_apply (t : Fin cfg0.N) (ht : t.val < 16) (a : Fin 2) (b : Fin 8) (k : Fin 8192) :
    (iblk m c 0 t : Vec Ideal S2x8x8192 .f32) (ix3 a b k) = samples m c (ix3 a b (⟨8192 * t.val + k.val, by omega⟩ : Fin 131072)) := by
  have hi : win0_0.index t 0 = 0 ∧ win0_0.index t 1 = 0 ∧ win0_0.index t 2 = t.val := by
    rcases fin_N0 t with rfl | rfl | rfl | rfl | rfl | rfl | rfl | rfl | rfl | rfl | rfl | rfl | rfl | rfl | rfl | rfl <;> decide
  unfold iblk
  rw [View.read_apply]
  show V m c main_arg0 _ = m ((c : Thread nD τ).loc main_arg0) _
  rw [V_main_arg0]
  congr 1
  funext d
  apply Fin.ext
  match d with
  | ⟨0, _⟩ => show win0_0.index t 0 * 2 + 1 * a.val = a.val; rw [hi.1]; omega
  | ⟨1, _⟩ => show win0_0.index t 1 * 8 + 1 * b.val = b.val; rw [hi.2.1]; omega
  | ⟨2, _⟩ => show win0_0.index t 2 * 8192 + 1 * k.val = 8192 * t.val + k.val; rw [hi.2.2]; omega

/-- Every point reads the whole column of bins. -/
theorem iblk1_apply (t : Fin cfg0.N) (p : Fin 32) : (iblk m c 1 t : Vec Ideal S32x1 .f32) (ix2 p (0 : Fin 1)) = bins m c (ix1 p) * inv m c := by
  have hi : win0_1.index t 0 = 0 ∧ win0_1.index t 1 = 0 := ⟨rfl, rfl⟩
  rw [← V_bins]
  unfold iblk
  rw [View.read_apply]
  show V m c main_v5 _ = V m c main_v5 _
  congr 1
  funext d
  apply Fin.ext
  match d with
  | ⟨0, _⟩ => show win0_1.index t 0 * 32 + 1 * p.val = p.val; rw [hi.1]; omega
  | ⟨1, _⟩ => show win0_1.index t 1 * 1 + 1 * 0 = 0; rw [hi.2]

/-- Every point reads the inverse width. -/
theorem iblk2_width (t : Fin cfg0.N) : width (iblk m c 2 t : Vec Ideal S1x1 .f32) = inv m c := by
  unfold width iblk
  rw [View.read_apply]
  exact V_inv m c _

end Cert.KernelIdeal.Joint

end
-- ==== Proof.Fold.lean ====
/-
  The whole launch of the kernel, over the extended reals: after point `t` the result block holds, entry by entry, the
  sum over the first `8192 * (t + 1)` samples; the last point divides by the slab's sum plus epsilon and is written back.
-/
module

public import proofs.«01_k».proof.Proof.Operands
public import proofs.«01_k».proof.Proof.Gen.KernelIdeal.Value

@[expose] public section

noncomputable section

namespace Cert.KernelIdeal.Joint

open Cert.KernelIdeal Cert.KernelIdeal.Gen Cert.Joint Idealize.ShloMosaic.TcCoe Idealize.SL.Sem
open Idealize.ShloMosaic hiding ix0 ix1 ix2 ix3 eq_ix1 eq_ix2 eq_ix3
open Idealize.ShloMosaic.ValueIdx

variable (m : (ℓ : Loc nD τ sig) → Buf (Elt Ideal) ℓ) (ρ : Dev nD → PrngReg) (c : Dev nD)

/-- What sample `s` of image `b` adds to the entry of the bins `p` and `q`; beyond the last sample, nothing. -/
def term (b : Fin 8) (p q : Fin 32) (s : ℕ) : EReal :=
  if h : s < 131072 then
    gauss (samples m c (ix3 (0 : Fin 2) b (⟨s, h⟩ : Fin 131072))) (inv m c) (bins m c (ix1 p) * inv m c)
      * gauss (samples m c (ix3 (1 : Fin 2) b (⟨s, h⟩ : Fin 131072))) (inv m c) (bins m c (ix1 q) * inv m c)
  else 0

/-- The contribution of a sample that is there. -/
theorem term_of (b : Fin 8) (p q : Fin 32) (s : ℕ) (h : s < 131072) : term m c b p q s
    = gauss (samples m c (ix3 (0 : Fin 2) b (⟨s, h⟩ : Fin 131072))) (inv m c) (bins m c (ix1 p) * inv m c)
      * gauss (samples m c (ix3 (1 : Fin 2) b (⟨s, h⟩ : Fin 131072))) (inv m c) (bins m c (ix1 q) * inv m c) := dif_pos h

/-- The sums over the first `n` samples. -/
def upto (n : ℕ) : Vec Ideal S8x32x32 .f32 := fun z => ∑ s ∈ Finset.range n, term m c (z 0) (z 1) (z 2) s

/-- Before the first sample the block is zero. -/
theorem start : (k0_pay5 (F := Ideal) : Vec Ideal S8x32x32 .f32) = upto m c 0 := by
  funext z
  show Ideal.ofBits .f32 0x00000000#32 = _
  rw [Ideal.ofBits_zero_f32]
  exact Finset.sum_range_zero _ |>.symm

/-- The products summed at point `t` are the contributions of its samples. -/
theorem part_eq (t : Fin cfg0.N) (ht : t.val < 16) (b : Fin 8) (p q : Fin 32) :
    part (iblk m c 0 t) (iblk m c 1 t) (inv m c) b p q = ∑ s ∈ Finset.range 8192, term m c b p q (8192 * t.val + s) := by
  unfold part
  rw [Finset.sum_range (fun s => term m c b p q (8192 * t.val + s))]
  refine Finset.sum_congr rfl fun k _ => ?_
  have hk : 8192 * t.val + k.val < 131072 := by omega
  rw [term_of m c b p q _ hk, iblk0_apply m c t ht, iblk0_apply m c t ht, iblk1_apply, iblk1_apply]

/-- Point `t` adds the samples from `8192 * t` to `8192 * (t + 1)`. -/
theorem step_upto (t : Fin cfg0.N) :
    step (upto m c (8192 * t.val)) (iblk m c 0 t) (iblk m c 1 t) (width (iblk m c 2 t)) = upto m c (8192 * (t.val + 1)) := by
  have hN : cfg0.N = 16 := N_0
  have ht : t.val < 16 := by have := t.isLt; omega
  funext z
  show upto m c (8192 * t.val) z + part _ _ _ (z 0) (z 1) (z 2) = _
  rw [iblk2_width]
  refine (congrArg (upto m c (8192 * t.val) z + ·) (part_eq m c t ht (z 0) (z 1) (z 2))).trans ?_
  unfold upto
  rw [show 8192 * (t.val + 1) = 8192 * t.val + 8192 by omega, Finset.sum_range_add]

/-- After point `n`, before the last one, the block holds the sums over the samples read so far. -/
theorem outsAt_eq : ∀ (n : ℕ) (h : n < cfg0.N), n < 15 → outsAt0 m c n h = upto m c (8192 * (n + 1))
  | 0, h, _ => by
    rw [outsAt0_A m c ⟨0, h⟩ rfl (by dsimp only; omega), out_A, start m c]
    exact step_upto m c ⟨0, h⟩
  | n + 1, h, hn => by
    rw [outsAt0_B m c ⟨n + 1, h⟩ (by dsimp only; omega) (by dsimp only; omega), out_B]
    show step (outsAt0 m c n _) _ _ _ = _
    rw [outsAt_eq n _ (by omega)]
    exact step_upto m c ⟨n + 1, h⟩

/-- The result: every slab of the sums over all samples, divided by its own sum plus epsilon. -/
abbrev result : Vec Ideal S8x32x32 .f32 := norm (upto m c 131072)

/-- The last point leaves the result in the block. -/
theorem last (t : Fin cfg0.N) (ht : t.val = 15) : outsAt0 m c t.val t.isLt = result m c := by
  obtain ⟨n, h⟩ := t
  obtain rfl : n = 15 := ht
  rw [outsAt0_C m c ⟨15, h⟩ (by dsimp only; omega) rfl, out_C]
  show norm (step (outsAt0 m c 14 _) _ _ _) = _
  rw [outsAt_eq m c 14 _ (by omega)]
  exact congrArg norm (step_upto m c ⟨15, h⟩)

/-- The one write-back, at the last point, writes the result. -/
theorem flushed_eq (t : Fin cfg0.N) (hf : (cfg0.win 3).flush t = true) :
    (dats m 0 c).flushed 3 t = ((cfg0.win 3).blk t).view.read (Elt Ideal) (result m c : Buf (Elt Ideal) ((c : Thread nD τ).loc main_v6)) := by
  have hN : cfg0.N = 16 := N_0
  have h3 : t.val = 15 := by have := (flush0_3 t).mp hf; have := t.isLt; omega
  obtain rfl : t = t0_15 := Fin.ext h3
  rw [Cert.KernelIdeal.Value.flushed3, last m c t0_15 rfl]
  have hz' : (fun a => win0_3.index t0_15 a * main_v6.ty.shape.size a) = fun _ => 0 := funext fun a => by fin_cases a <;> decide
  exact (Memref.read_access_unit_zero (Elt Ideal) main_v6 hz' (fun a => by rw [congrFun hz' a]; simp) (result m c)).symm

/-- The result array ends holding the result. -/
theorem final_array : (dats m 0 c).arrAt 3 cfg0.N = (result m c : Buf (Elt Ideal) ((c : Thread nD τ).loc main_v6)) :=
  (dats m 0 c).arrAt_eq_of_cover 3 (result m c : Buf (Elt Ideal) ((c : Thread nD τ).loc main_v6)) (flushed_eq m c) fun i =>
    ⟨t0_15, (flush0_3 t0_15).mpr rfl, by
      show i ∈ ((View.whole main_v6).slice (win0_3.rect t0_15)).set
      rw [View.set_slice_whole, Rect.mem_set_unit]
      intro a
      have h0 : (i 0 : Nat) < 8 := (i 0).isLt
      have h1 : (i 1 : Nat) < 32 := (i 1).isLt
      have h2 : (i 2 : Nat) < 32 := (i 2).isLt
      match a with
      | ⟨0, _⟩ => exact ⟨Nat.zero_le _, h0⟩
      | ⟨1, _⟩ => exact ⟨Nat.zero_le _, h1⟩
      | ⟨2, _⟩ => exact ⟨Nat.zero_le _, h2⟩⟩

end Cert.KernelIdeal.Joint

end
-- ==== Proof.RefValue.lean ====
/-
  The plain formula, read at an entry: the sum over all samples of the product of the two Gaussians, divided by the sum
  of the whole slab plus epsilon.
-/
module

public import proofs.«01_k».proof.Proof.Gauss
public import proofs.«01_k».proof.Proof.Gen.ReferenceIdeal.Read
public import Idealize.ShloMosaic.Lib.ValueIdx
public import Idealize.ShloMosaic.Lib.Pointwise.Reduce
public import Idealize.ShloMosaic.Lib.Pointwise.Tactic

@[expose] public section

noncomputable section

namespace Cert.ReferenceIdeal.Joint

open Cert.ReferenceIdeal Cert.ReferenceIdeal.Read Cert.Joint Idealize.ShloMosaic.TcCoe Idealize.SL.Sem
open Idealize.ShloMosaic hiding ix0 ix1 ix2 ix3 eq_ix1 eq_ix2 eq_ix3
open Idealize.ShloMosaic.ValueIdx

variable (X : Vec Ideal S2x8x131072 .f32) (B : Vec Ideal S32 .f32) (w : Vec Ideal S_ .f32)

/-- The first variable's Gaussian: image `b`, sample `k`, bin `p`. -/
theorem first_apply (b : Fin 8) (k : Fin 131072) (p : Fin 32) :
    val_main_v12 (F := Ideal) X B w (ix3 b k p) = bell (X (ix3 (0 : Fin 2) b k)) (B (ix1 p)) (w ix0) := by
  rw [val_main_v12_apply, val_main_v11_apply, val_main_v10_apply, val_main_cst_apply, val_main_v9_apply, val_main_v8_apply,
    val_main_v6_apply, val_main_v4_apply, val_main_v2_apply, val_main_v1_apply, val_main_v0_apply, val_main_v5_apply,
    val_main_v3_apply, val_main_v7_apply]
  have e : idx_main_v0 (idx_main_v1 (idx_main_v2 (idx_main_v4 (ix3 b k p)))) = ix3 (0 : Fin 2) b k := funext fun d => Fin.ext (by
    match d with
    | ⟨0, _⟩ => rfl
    | ⟨1, _⟩ => show (b.val * 131072 + k.val) / 131072 % 8 = b.val; omega
    | ⟨2, _⟩ => show (b.val * 131072 + k.val) % 131072 = k.val; omega)
  have hb : idx_main_v3 (idx_main_v5 (ix3 b k p)) = ix1 p := funext fun d => Fin.ext (by match d with | ⟨0, _⟩ => rfl)
  have hw : idx_main_v7 (ix3 b k p) = ix0 := funext fun d => d.elim0
  rw [e, hb, hw]
  rfl

/-- The second variable's Gaussian. -/
theorem second_apply (b : Fin 8) (k : Fin 131072) (q : Fin 32) :
    val_main_v25 (F := Ideal) X B w (ix3 b k q) = bell (X (ix3 (1 : Fin 2) b k)) (B (ix1 q)) (w ix0) := by
  rw [val_main_v25_apply, val_main_v24_apply, val_main_v23_apply, val_main_cst_0_apply, val_main_v22_apply, val_main_v21_apply,
    val_main_v19_apply, val_main_v17_apply, val_main_v15_apply, val_main_v14_apply, val_main_v13_apply, val_main_v18_apply,
    val_main_v16_apply, val_main_v20_apply]
  have e : idx_main_v13 (idx_main_v14 (idx_main_v15 (idx_main_v17 (ix3 b k q)))) = ix3 (1 : Fin 2) b k := funext fun d => Fin.ext (by
    match d with
    | ⟨0, _⟩ => rfl
    | ⟨1, _⟩ => show (b.val * 131072 + k.val) / 131072 % 8 = b.val; omega
    | ⟨2, _⟩ => show (b.val * 131072 + k.val) % 131072 = k.val; omega)
  have hb : idx_main_v16 (idx_main_v18 (ix3 b k q)) = ix1 q := funext fun d => Fin.ext (by match d with | ⟨0, _⟩ => rfl)
  have hw : idx_main_v20 (ix3 b k q) = ix0 := funext fun d => d.elim0
  rw [e, hb, hw]
  rfl

/-- The joint histogram before it is normalised: image `b`, bins `p` and `q`. -/
def joint (b : Fin 8) (p q : Fin 32) : EReal :=
  ∑ k : Fin 131072, bell (X (ix3 (0 : Fin 2) b k)) (B (ix1 p)) (w ix0) * bell (X (ix3 (1 : Fin 2) b k)) (B (ix1 q)) (w ix0)

/-- The matrix product of the two is the joint histogram. -/
theorem joint_apply (b : Fin 8) (p q : Fin 32) : val_main_v27 (F := Ideal) X B w (ix3 b p q) = joint X B w b p q := by
  rw [val_main_v27_apply]
  refine Finset.sum_congr rfl fun k _ => ?_
  have e1 : idx_main_v26 (lidx_main_v27 (ix3 b p q) k) = ix3 b k p := funext fun d => Fin.ext (by
    match d with
    | ⟨0, _⟩ => rfl
    | ⟨1, _⟩ => rfl
    | ⟨2, _⟩ => rfl)
  have e2 : ridx_main_v27 (ix3 b p q) k = ix3 b k q := funext fun d => Fin.ext (by
    match d with
    | ⟨0, _⟩ => rfl
    | ⟨1, _⟩ => rfl
    | ⟨2, _⟩ => rfl)
  rw [val_main_v26_apply, e1, e2, first_apply, second_apply]

/-- The sum of one image's slab. -/
theorem total_apply (b : Fin 8) : val_main_v28 (F := Ideal) X B w (ix1 b) = ∑ p : Fin 32, ∑ q : Fin 32, joint X B w b p q := by
  unfold val_main_v28
  rw [Host.reduceAdd_apply, Ideal.hostReduceAdd_def, Ideal.hostReduceAdd_r3_a12, val_main_cst_1_apply]
  rw [show (FloatOps.ofBits .f32 0x00000000#32 : Ideal .f32) = 0 from Ideal.ofBits_zero_f32, zero_add]
  exact Finset.sum_congr rfl fun p _ => Finset.sum_congr rfl fun q _ => joint_apply X B w b p q

/-- The formula at an entry. -/
theorem result_apply (b : Fin 8) (p q : Fin 32) : val_main_v33 (F := Ideal) X B w (ix3 b p q)
    = Ideal.div (joint X B w b p q) ((∑ p : Fin 32, ∑ q : Fin 32, joint X B w b p q) + eps) := by
  rw [val_main_v33_apply, joint_apply, val_main_v32_apply, val_main_v31_apply, val_main_v30_apply, val_main_cst_2_apply, val_main_v29_apply]
  have e : idx_main_v29 (idx_main_v32 (ix3 b p q)) = ix1 b := funext fun d => Fin.ext (by
    match d with
    | ⟨0, _⟩ => show (b.val * 1 + 0) * 1 + 0 = b.val; omega)
  rw [e, total_apply]
  rfl

end Cert.ReferenceIdeal.Joint

end
-- ==== Proof.Equation.lean ====
/-
  The equation: for a width other than zero, what the kernel leaves in its result array is the plain formula of the same
  samples, bins and width.
-/
module

public import proofs.«01_k».proof.Proof.Fold
public import proofs.«01_k».proof.Proof.RefValue

@[expose] public section

noncomputable section

namespace Cert.Joint

open Idealize.ShloMosaic.TcCoe Idealize.SL.Sem
open Idealize.ShloMosaic hiding ix0 ix1 ix2 ix3 eq_ix1 eq_ix2 eq_ix3
open Idealize.ShloMosaic.ValueIdx
open Cert.KernelIdeal (nD τ sig main_arg2 S8x32x32)
open Cert.KernelIdeal.Joint Cert.ReferenceIdeal.Joint

variable (m : (ℓ : Loc nD τ sig) → Buf (Elt Ideal) ℓ) (c : Dev nD)

/-- The width as the array of rank zero the program is launched with. -/
abbrev widthArray : Vec Ideal Cert.KernelIdeal.S_ .f32 := m ((c : Thread nD τ).loc main_arg2)

/-- The kernel's sums over all samples are the formula's joint histogram. -/
theorem upto_eq_joint (hw : sigma m c ≠ 0) (b : Fin 8) (p q : Fin 32) :
    upto m c 131072 (ix3 b p q) = joint (samples m c) (bins m c) (widthArray m c) b p q := by
  refine (Finset.sum_range (fun s => term m c b p q s)).trans ?_
  refine Finset.sum_congr rfl fun k _ => ?_
  rw [term_of m c b p q k.val k.isLt, gauss_eq_bell _ _ _ hw, gauss_eq_bell _ _ _ hw]

/-- The kernel's result is the formula's. -/
theorem result_eq (hw : sigma m c ≠ 0) :
    result m c = Cert.ReferenceIdeal.Read.val_main_v33 (F := Ideal) (samples m c) (bins m c) (widthArray m c) := by
  funext z
  rw [eq_ix3 z]
  refine Eq.trans ?_ (result_apply (samples m c) (bins m c) (widthArray m c) (z 0) (z 1) (z 2)).symm
  show Ideal.div (upto m c 131072 (ix3 (z 0) (z 1) (z 2))) ((∑ p : Fin 32, ∑ q : Fin 32, upto m c 131072 (ix3 (z 0) p q)) + eps) = _
  refine congrArg₂ Ideal.div (upto_eq_joint m c hw (z 0) (z 1) (z 2)) (congrArg (· + eps) ?_)
  exact Finset.sum_congr rfl fun p _ => Finset.sum_congr rfl fun q _ => upto_eq_joint m c hw (z 0) p q

end Cert.Joint

end
-- ==== Proof.Needed.lean ====
/-
  Why the width must not be zero: with every sample, every bin and the width zero the kernel's result and the plain
  formula differ, at every entry.
-/
module

public import proofs.«01_k».proof.Proof.Equation
public import Idealize.ShloMosaic.Lib.IdealHost

@[expose] public section

noncomputable section

namespace Cert.Joint

open Idealize.ShloMosaic.TcCoe Idealize.SL.Sem
open Idealize.ShloMosaic hiding ix0 ix1 ix2 ix3 eq_ix1 eq_ix2 eq_ix3
open Idealize.ShloMosaic.ValueIdx
open Cert.KernelIdeal (nD τ sig main_arg2 S8x32x32)
open Cert.KernelIdeal.Joint Cert.ReferenceIdeal.Joint

variable (m : (ℓ : Loc nD τ sig) → Buf (Elt Ideal) ℓ) (c : Dev nD)

/-- The factor is minus one half. -/
theorem half_real : half = ((-(1 / 2) : ℝ) : EReal) := by
  simp [half, Ideal.ofBits, Ideal.ieee, -EReal.coe_mul, -EReal.coe_neg]
  norm_num

/-- The small number is a positive real. -/
theorem eps_real : ∃ r : ℝ, 0 < r ∧ eps = (r : EReal) := by
  refine ⟨_, ?_, by simp [eps, Ideal.ofBits, Ideal.ieee, -EReal.coe_mul, -EReal.coe_neg]; rfl⟩
  positivity

/-- With sample, bin and width zero the kernel's Gaussian is one. -/
theorem gauss_at_zero : gauss 0 (Ideal.div 1 0) (0 * Ideal.div 1 0) = 1 := by
  unfold gauss
  rw [zero_mul, sub_zero, mul_zero, ← EReal.coe_zero]
  show ((Real.exp 0 : ℝ) : EReal) = 1
  rw [Real.exp_zero, EReal.coe_one]

/-- There the formula's Gaussian is zero. -/
theorem bell_at_zero : bell 0 0 0 = 0 := by
  have h : Ideal.div (0 - 0) 0 = ⊥ := by simp [Ideal.div]
  unfold bell
  rw [h, half_real, EReal.bot_mul_bot, EReal.coe_mul_top_of_neg (by norm_num)]
  rfl

/-- With every sample, every bin and the width zero, the kernel and the formula leave different results. -/
theorem result_ne (hX : samples m c = fun _ => 0) (hB : bins m c = fun _ => 0) (hw : widthArray m c = fun _ => 0) :
    result m c ≠ Cert.ReferenceIdeal.Read.val_main_v33 (F := Ideal) (samples m c) (bins m c) (widthArray m c) := by
  have hs : sigma m c = 0 := congrFun hw ix0
  obtain ⟨r, hr, he⟩ := eps_real
  have hk : ∀ (b : Fin 8) (p q : Fin 32), upto m c 131072 (ix3 b p q) = ((131072 : ℝ) : EReal) := fun b p q => by
    refine (Finset.sum_range (fun s => term m c b p q s)).trans ?_
    have h1 : ∀ k : Fin 131072, term m c b p q k.val = ((1 : ℝ) : EReal) := fun k => by
      rw [term_of m c b p q k.val k.isLt, hX, hB]
      unfold Cert.KernelIdeal.Joint.inv
      rw [hs, gauss_at_zero, mul_one, EReal.coe_one]
    rw [Finset.sum_congr rfl fun k _ => h1 k, Finset.sum_const, ← EReal.coe_nsmul, Finset.card_univ, Fintype.card_fin]
    norm_num
  have hj : ∀ (b : Fin 8) (p q : Fin 32), joint (samples m c) (bins m c) (widthArray m c) b p q = 0 := fun b p q => by
    rw [hX, hB, hw]
    exact Finset.sum_eq_zero fun k _ => by rw [bell_at_zero, mul_zero]
  intro h
  have h0 := congrFun h (ix3 (0 : Fin 8) (0 : Fin 32) (0 : Fin 32))
  rw [result_apply] at h0
  simp only [hj, Finset.sum_const_zero, zero_add] at h0
  have hl : result m c (ix3 (0 : Fin 8) (0 : Fin 32) (0 : Fin 32))
      = Ideal.div ((131072 : ℝ) : EReal) ((∑ p : Fin 32, ∑ q : Fin 32, ((131072 : ℝ) : EReal)) + eps) := by
    refine congrArg₂ Ideal.div (hk 0 0 0) (congrArg (· + eps) ?_)
    exact Finset.sum_congr rfl fun p _ => Finset.sum_congr rfl fun q _ => hk 0 p q
  have hd : (∑ p : Fin 32, ∑ q : Fin 32, ((131072 : ℝ) : EReal)) + eps = ((134217728 + r : ℝ) : EReal) := by
    rw [he, EReal.coe_add]
    refine congrArg (· + (r : EReal)) ?_
    simp only [Finset.sum_const, ← EReal.coe_nsmul, Finset.card_univ, Fintype.card_fin]
    norm_num
  have hn : ((134217728 + r : ℝ) : EReal) ≠ 0 := by exact_mod_cast (by positivity : (134217728 + r : ℝ) ≠ 0)
  have hr0 : (r : EReal) ≠ 0 := by exact_mod_cast hr.ne'
  rw [hl, hd, he] at h0
  unfold Ideal.div at h0
  rw [if_neg hn, if_neg hr0, zero_mul, ← EReal.coe_inv, ← EReal.coe_mul] at h0
  have h2 : (131072 : ℝ) * (134217728 + r)⁻¹ = 0 := EReal.coe_eq_zero.mp h0
  exact absurd h2 (by positivity)

end Cert.Joint

end
-- ==== Proof.lean ====
/-
  The certificate: the kernel and its plain reference run, leave their arguments as they were and every semaphore counter
  at zero, and, for a width other than zero, leave equal results over the extended reals. The mathematics is in the
  modules imported here: `Gauss` (one sample against one bin), `Block` (one grid point), `Operands` (what the points
  read), `Fold` (what the result array ends holding), `RefValue` (the reference at an entry), `Equation` (they agree), `Needed` (they do
  not at width zero).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Equation
public import proofs.«01_k».proof.Proof.Needed
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and, having no semaphore, ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

instance : Cert.Pre_width_is_not_zero.Facts := ⟨⟩

/-- The precondition, read: the width is not zero. -/
theorem width_ne_zero (m : (ℓ : Loc Cert.KernelIdeal.nD Cert.KernelIdeal.τ Cert.KernelIdeal.sig) → Buf (Elt Ideal) ℓ)
    (h : Cert.Pre_KernelIdeal_width_is_not_zero m) (c : Dev Cert.KernelIdeal.nD) : Cert.KernelIdeal.Joint.sigma m c ≠ 0 := by
  intro h0
  have e : Ideal.cmp .une (Cert.KernelIdeal.Joint.sigma m c) (Ideal.ofBits .f32 0x00000000#32) = 1#1 := congrFun (h c) ValueIdx.ix0
  rw [h0, Ideal.ofBits_zero_f32] at e
  simp [Ideal.cmp] at e

/-- For a width other than zero the kernel and the reference leave equal results. -/
theorem algebraic : Cert.algebraic_KernelIdeal_ReferenceIdeal_pre_width_is_not_zero := by
  intro m ρ m' ρ' hpre hagree
  refine ⟨fun c => Cert.KernelIdeal.Joint.result m c, ?_, ?_⟩
  · exact (θ_run Cert.KernelIdeal.defs _ _).mono (fun r h c => ⟨(h c).1.trans (Cert.KernelIdeal.Joint.final_array m c), (h c).2⟩)
      (Cert.KernelIdeal.Value.run_blocks (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2⟩ := hagree c
    rw [Cert.ReferenceIdeal.Read.val_main_v33_eq, h0, h1, h2]
    exact (Cert.Joint.result_eq m c (width_ne_zero m hpre c)).symm

/-- All claims together. -/
theorem claim : Cert.Claim := ⟨Cert.Kernel.Gen.facts, Cert.KernelIdeal.Gen.facts, Cert.ReferenceIdeal.Gen.facts, ⟨⟩,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  algebraic⟩

end Cert.Proof

end
